-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_vocabulary [hPre_tokens_in_vocabulary : Cert.Pre_tokens_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocabulary [hPre_tokens_in_vocabulary : Cert.Pre_tokens_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tokens_in_vocabulary [hKernelIdeal : Cert.KernelIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tokens_in_vocabulary [hReferenceIdeal : Cert.ReferenceIdeal.Facts] [hPre_tokens_in_vocabulary : Cert.Pre_tokens_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tokens_in_vocabulary [hKernelIdeal : Cert.KernelIdeal.Facts] [hReferenceIdeal : Cert.ReferenceIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tokens_in_vocabulary : Cert.Pre_tokens_in_vocabulary.Facts),
    quiescent_Kernel (hKernel := hKernel)
    ∧ quiescent_KernelIdeal (hKernelIdeal := hKernelIdeal)
    ∧ quiescent_KernelIdeal_pre_tokens_in_vocabulary (hKernelIdeal := hKernelIdeal) (hPre_tokens_in_vocabulary := hPre_tokens_in_vocabulary)
    ∧ quiescent_ReferenceIdeal (hReferenceIdeal := hReferenceIdeal)
    ∧ quiescent_ReferenceIdeal_pre_tokens_in_vocabulary (hReferenceIdeal := hReferenceIdeal) (hPre_tokens_in_vocabulary := hPre_tokens_in_vocabulary)
    ∧ preserves_Kernel_KernelIdeal
    ∧ algebraic_KernelIdeal_ReferenceIdeal_pre_tokens_in_vocabulary (hKernelIdeal := hKernelIdeal) (hReferenceIdeal := hReferenceIdeal) (hPre_tokens_in_vocabulary := hPre_tokens_in_vocabulary)
-- ==== Pre_tokens_in_vocabulary.lean ====
abbrev S16384x200 : Shape := ⟨2, ![16384, 200]⟩
abbrev S25x32 : Shape := ⟨2, ![25, 32]⟩
abbrev S6400x128 : Shape := ⟨2, ![6400, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : IVec S16384x200 32) (main_arg1 : FVec F S25x32 .f32) (main_arg2 : FVec F S6400x128 .f32) (main_arg3 : FVec F S128 .f32) (main_arg4 : FVec F S128x64 .f32) (main_arg5 : FVec F S64 .f32) : IVec S16384x200 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 25#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  main_v4
-- ==== Kernel.lean ====
abbrev S16384x200 : Shape := ⟨2, ![16384, 200]⟩
abbrev S25x32 : Shape := ⟨2, ![25, 32]⟩
abbrev S6400x128 : Shape := ⟨2, ![6400, 128]⟩
abbrev S128 : Shape := ⟨1, ![128]⟩
abbrev S128x64 : Shape := ⟨2, ![128, 64]⟩
abbrev S64 : Shape := ⟨1, ![64]⟩
abbrev S200x32x128 : Shape := ⟨3, ![200, 32, 128]⟩
abbrev S32x200x128 : Shape := ⟨3, ![32, 200, 128]⟩
abbrev S32x25600 : Shape := ⟨2, ![32, 25600]⟩
abbrev S25x25600 : Shape := ⟨2, ![25, 25600]⟩
abbrev S5000x128 : Shape := ⟨2, ![5000, 128]⟩
abbrev S1x128 : Shape := ⟨2, ![1, 128]⟩
abbrev S1x64 : Shape := ⟨2, ![1, 64]⟩
abbrev S16384x64 : Shape := ⟨2, ![16384, 64]⟩
abbrev S2048x200 : Shape := ⟨2, ![2048, 200]⟩
abbrev S2048x64 : Shape := ⟨2, ![2048, 64]⟩
abbrev S200x128 : Shape := ⟨2, ![200, 128]⟩
abbrev S2048x128 : Shape := ⟨2, ![2048, 128]⟩

abbrev nBuf : Space → Nat
  | .hbm => 15
  | .vmem => 11
  | .smem => 0
  | _ => 0

abbrev bufTy : (tb : Table) → Fin (tcTables nBuf tb) → BufTy
  | .hbm, ⟨0, _⟩ => ⟨S16384x200, .i32⟩
  | .hbm, ⟨1, _⟩ => ⟨S25x32, .f32⟩
  | .hbm, ⟨2, _⟩ => ⟨S6400x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S200x32x128, .f32⟩
  | .hbm, ⟨7, _⟩ => ⟨S32x200x128, .f32⟩
  | .hbm, ⟨8, _⟩ => ⟨S32x25600, .f32⟩
  | .hbm, ⟨9, _⟩ => ⟨S25x25600, .bf16⟩
  | .hbm, ⟨10, _⟩ => ⟨S5000x128, .bf16⟩
  | .hbm, ⟨11, _⟩ => ⟨S1x128, .f32⟩
  | .hbm, ⟨12, _⟩ => ⟨S128x64, .bf16⟩
  | .hbm, ⟨13, _⟩ => ⟨S1x64, .f32⟩
  | .hbm, ⟨14, _⟩ => ⟨S16384x64, .f32⟩
  | .local _ .vmem, ⟨0, _⟩ => ⟨S25x32, .f32⟩
  | .local _ .vmem, ⟨1, _⟩ => ⟨S32x25600, .f32⟩
  | .local _ .vmem, ⟨2, _⟩ => ⟨S25x25600, .bf16⟩
  | .local _ .vmem, ⟨3, _⟩ => ⟨S5000x128, .bf16⟩
  | .local _ .vmem, ⟨4, _⟩ => ⟨S2048x200, .i32⟩
  | .local _ .vmem, ⟨5, _⟩ => ⟨S2048x200, .i32⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S2048x64, .f32⟩
  | .local _ .vmem, ⟨10, _⟩ => ⟨S2048x64, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := .none

abbrev stage0_0 : Fin 1 → Memref sig .tc .vmem S25x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x25600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S25x25600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S5000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16384x200 : Shape := ⟨2, ![16384, 200]⟩
abbrev S25x32 : Shape := ⟨2, ![25, 32]⟩
abbrev S6400x128 : Shape := ⟨2, ![6400, 128]⟩
abbrev S128 : Shape := ⟨1, ![128]⟩
abbrev S128x64 : Shape := ⟨2, ![128, 64]⟩
abbrev S64 : Shape := ⟨1, ![64]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x32 : Shape := ⟨3, ![16384, 200, 32]⟩
abbrev S16384x6400 : Shape := ⟨2, ![16384, 6400]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S25x32, .f32⟩
  | .hbm, ⟨2, _⟩ => ⟨S6400x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S_, .i32⟩
  | .hbm, ⟨7, _⟩ => ⟨S16384x200, .i32⟩
  | .hbm, ⟨8, _⟩ => ⟨S16384x200, .i1⟩
  | .hbm, ⟨9, _⟩ => ⟨S_, .i32⟩
  | .hbm, ⟨10, _⟩ => ⟨S16384x200, .i32⟩
  | .hbm, ⟨11, _⟩ => ⟨S16384x200, .i32⟩
  | .hbm, ⟨12, _⟩ => ⟨S16384x200, .i32⟩
  | .hbm, ⟨13, _⟩ => ⟨S16384x200x1, .i32⟩
  | .hbm, ⟨14, _⟩ => ⟨S1, .i32⟩
  | .hbm, ⟨15, _⟩ => ⟨S_, .i32⟩
  | .hbm, ⟨16, _⟩ => ⟨S16384x200x1, .i32⟩
  | .hbm, ⟨17, _⟩ => ⟨S16384x200x1, .i1⟩
  | .hbm, ⟨18, _⟩ => ⟨S1x1x1, .i32⟩
  | .hbm, ⟨19, _⟩ => ⟨S16384x200x1, .i32⟩
  | .hbm, ⟨20, _⟩ => ⟨S16384x200x1, .i1⟩
  | .hbm, ⟨21, _⟩ => ⟨S16384x200x1, .i1⟩
  | .hbm, ⟨22, _⟩ => ⟨S_, .i1⟩
  | .hbm, ⟨23, _⟩ => ⟨S16384x200, .i1⟩
  | .hbm, ⟨24, _⟩ => ⟨S16384x200x32, .f32⟩
  | .hbm, ⟨25, _⟩ => ⟨S16384x200x32, .i1⟩
  | .hbm, ⟨26, _⟩ => ⟨S_, .f32⟩
  | .hbm, ⟨27, _⟩ => ⟨S16384x200x32, .f32⟩
  | .hbm, ⟨28, _⟩ => ⟨S16384x200x32, .f32⟩
  | .hbm, ⟨29, _⟩ => ⟨S16384x6400, .f32⟩
  | .hbm, ⟨30, _⟩ => ⟨S_, .f32⟩
  | .hbm, ⟨31, _⟩ => ⟨S16384x6400, .f32⟩
  | .hbm, ⟨32, _⟩ => ⟨S16384x6400, .f32⟩
  | .hbm, ⟨33, _⟩ => ⟨S16384x128, .f32⟩
  | .hbm, ⟨34, _⟩ => ⟨S1x128, .f32⟩
  | .hbm, ⟨35, _⟩ => ⟨S16384x128, .f32⟩
  | .hbm, ⟨36, _⟩ => ⟨S16384x128, .f32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S16384x64, .f32⟩
  | .hbm, ⟨41, _⟩ => ⟨S1x64, .f32⟩
  | .hbm, ⟨42, _⟩ => ⟨S16384x64, .f32⟩
  | .hbm, ⟨43, _⟩ => ⟨S16384x64, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_cst : Ref sig .tc := ⟨.hbm, 30, rfl⟩
abbrev main_call1_v0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_call2_cst : Ref sig .tc := ⟨.hbm, 37, rfl⟩
abbrev main_call2_v0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩

abbrev nD : Nat := 1
abbrev τ : Topo := Topo.v7x

variable {F : FTy → Type} [FloatOps F]
-- ==== Proof.Run.lean ====
/- The kernel's run with its result named: the final memory holds the second region's output array where the kernel
   returns it, and every argument array is as it was at the start. -/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel terminates without a fault; the returned array is then what the last
    boundary's contents say, and the arguments are unchanged. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W4 m ρ c) s')
      isplitl [Hbufs] <;> iassumption)
    (hQ := fun s h _ c =>
      have read (b : Ref sig .tc) (hb : b ∈ argRefs) (hu : ¬ (Proc.devRef .tc b : DevRef τ sig).isScoped) :
          s.mem ((c.tc : Thread nD τ).loc b) = m ((c.tc : Thread nD τ).loc b) :=
        (h c _ (mem_uc b hu)).trans (W4_args m ρ c b hb)
      ⟨h c _ (mem_uc main_v8 (by decide)), read main_arg0 (by decide) (by decide), read main_arg1 (by decide) (by decide),
        read main_arg2 (by decide) (by decide), read main_arg3 (by decide) (by decide), read main_arg4 (by decide) (by decide),
        read main_arg5 (by decide) (by decide)⟩)

end Cert.KernelIdeal.Value

end
-- ==== Proof.Spec.lean ====
/- The network as a formula: what both programs compute, stated over plain extended reals, and the two
   rearrangements of sums that bring the kernel's order of summation to the reference's. -/
module

public import Idealize.ShloMosaic.Lib.Pointwise
public import Idealize.ShloMosaic.Lib.ValueIdx

@[expose] public section

noncomputable section

namespace Cert.Net

open Idealize.ShloMosaic

/-- A vector of `a` entries in `α`. -/
abbrev Vec1 (α : Type) (a : Nat) : Type := (⟨1, ![a]⟩ : Shape).Idx → α

/-- A matrix of `a` rows and `b` columns in `α`. -/
abbrev Mat (α : Type) (a b : Nat) : Type := (⟨2, ![a, b]⟩ : Shape).Idx → α

/-- The embedding row a token names. -/
def tok (w : BitVec 32) : Fin 25 := ⟨min w.toInt.toNat 24, by omega⟩

/-- A token in the vocabulary: a word between 0 and 24. -/
def InVocab (w : BitVec 32) : Prop := w.toNat < 25

/-- The row of `W1` that position `l` and embedding coordinate `d` meet. -/
def slot (l : Fin 200) (d : Fin 32) : Fin 6400 := ⟨l.val * 32 + d.val, by omega⟩

/-- The hidden layer before its bias: row `r`, unit `n`. -/
def pre (X : Mat (BitVec 32) 16384 200) (E : Mat EReal 25 32) (W1 : Mat EReal 6400 128)
    (r : Fin 16384) (n : Fin 128) : EReal :=
  ∑ l : Fin 200, ∑ d : Fin 32, max (E (ix2 (tok (X (ix2 r l))) d)) 0 * W1 (ix2 (slot l d) n)

/-- The network's output at row `r`, unit `o`. -/
def out (X : Mat (BitVec 32) 16384 200) (E : Mat EReal 25 32) (W1 : Mat EReal 6400 128)
    (b1 : Vec1 EReal 128) (W2 : Mat EReal 128 64) (b2 : Vec1 EReal 64) (r : Fin 16384) (o : Fin 64) : EReal :=
  (∑ n : Fin 128, max (pre X E W1 r n + b1 (ix1 n)) 0 * W2 (ix2 n o)) + b2 (ix1 o)

/-- A token in the vocabulary names its own row. -/
theorem tok_val {w : BitVec 32} (h : InVocab w) : (tok w).val = w.toNat := by
  have h' : w.toNat < 25 := h
  have e : w.toInt = w.toNat := by rw [BitVec.toInt_eq_toNat_cond]; split <;> omega
  show min w.toInt.toNat 24 = _
  rw [e]; omega

/-- A token in the vocabulary is the word of `v` exactly when it names row `v`. -/
theorem eq_word_iff {w : BitVec 32} (h : InVocab w) (v : Fin 25) : w = BitVec.ofNat 32 v.val ↔ v = tok w := by
  rw [Fin.ext_iff, tok_val h, ← BitVec.toNat_inj, BitVec.toNat_ofNat, Nat.mod_eq_of_lt (by omega)]
  exact eq_comm

/-- Summing a table's rows against the one-hot encoding of the tokens picks each token's own row. -/
theorem sum_oneHot {x : Fin 200 → BitVec 32} (hx : ∀ l, InVocab (x l)) (T : Fin 25 → Fin 200 → EReal) :
    ∑ v : Fin 25, ∑ l : Fin 200, (if x l = BitVec.ofNat 32 v.val then (1 : EReal) else 0) * T v l
      = ∑ l : Fin 200, T (tok (x l)) l := by
  rw [Finset.sum_comm]
  refine Finset.sum_congr rfl fun l _ => ?_
  simp only [eq_word_iff (hx l), ite_mul, one_mul, zero_mul]
  simp

/-- A sum over the 6400 rows of `W1` is the sum over positions of the sums over embedding coordinates. -/
theorem sum_slots (f : Fin 6400 → EReal) : ∑ k : Fin 6400, f k = ∑ l : Fin 200, ∑ d : Fin 32, f (slot l d) :=
  Fin.sum_univ_tiles 200 32 rfl f

end Cert.Net

end
-- ==== Proof.Payload.lean ====
/- What the two kernel bodies store, at an index, as functions of the blocks they read. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Cert.Net

/-- The table row of vocabulary entry `v` at position `l`. -/
def tabRow (v : Fin 25) (l : Fin 200) : Fin 5000 := ⟨v.val * 200 + l.val, by omega⟩

/-- The first body stores the rectified embedding times its weights. -/
theorem table_apply (E : FVec Ideal S25x32 .f32) (W : FVec Ideal S32x25600 .f32) (v : Fin 25) (q : Fin 25600) :
    out0_2 (F := Ideal) E W (ix2 v q) = ∑ d : Fin 32, max (E (ix2 v d)) 0 * W (ix2 d q) := by
  frame_out
  pointwise [k0_pay1]

/-- One entry of the one-hot encoding. -/
theorem hot_apply (w u : BitVec 32) :
    (FloatOps.sitofp (F := Ideal) .f32 (BitVec.setWidth 32 (IntOp.cmpi .eq w u)) : EReal) = if w = u then 1 else 0 := by
  by_cases h : w = u
  · subst h
    rw [if_pos rfl]
    rw [show IntOp.cmpi .eq w w = 1#1 by simp [IntOp.cmpi]]
    show (((1#32 : BitVec 32).toInt : ℝ) : EReal) = 1
    simp
  · rw [if_neg h]
    have e : (w == u) = false := by simpa using h
    rw [show IntOp.cmpi .eq w u = 0#1 by simp [IntOp.cmpi, e]]
    show (((0#32 : BitVec 32).toInt : ℝ) : EReal) = 0
    simp

/-- A sum over the vocabulary, term by term from the left. -/
theorem sum_25 (f : Fin 25 → EReal) : ∑ v : Fin 25, f v
    = f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 := by
  simp only [Fin.sum_univ_castSucc, Fin.sum_univ_zero, zero_add]
  rfl

/-- The second body stores the two dense layers over the one-hot encoding of its tokens against the table. -/
theorem mlp_apply (T : FVec Ideal S5000x128 .bf16) (X : IVec S2048x200 32) (b1 : FVec Ideal S1x128 .f32)
    (W2 : FVec Ideal S128x64 .bf16) (b2 : FVec Ideal S1x64 .f32) (i : Fin 2048) (o : Fin 64) :
    out1_5 (F := Ideal) T X b1 W2 b2 (ix2 i o)
      = (∑ n : Fin 128, max ((∑ v : Fin 25, ∑ l : Fin 200,
          (if X (ix2 i l) = BitVec.ofNat 32 v.val then (1 : EReal) else 0) * T (ix2 (tabRow v l) n)) + b1 (ix2 0 n)) 0 * W2 (ix2 n o))
        + b2 (ix2 0 o) := by
  frame_out
  pointwise [k1_pay1, k1_pay2, k1_pay3, k1_pay4, k1_pay5, k1_pay6, k1_pay7, k1_pay8, k1_pay9, k1_pay10, k1_pay11]
  simp only [hot_apply]
  refine congrArg (· + b2 (ix2 0 o)) (Finset.sum_congr rfl fun n _ => ?_)
  refine congrArg (fun h => max (h + b1 (ix2 0 n)) 0 * W2 (ix2 n o)) ?_
  rw [sum_25]
  rfl

end Cert.KernelIdeal.Value

end
-- ==== Proof.Arrays.lean ====
/- The two regions' output arrays, and the arrays the host operations around them prepare, at an index. -/
module

public import proofs.«01_k».proof.Proof.Payload
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem Cert.Net
open Idealize.ShloMosaic.Pipeline (Dat)

section Regions
variable (V : (c : Dev nD) → (b : Ref sig .tc) → Buf (Elt Ideal) ((c : Thread nD τ).loc b))

/-- Every window of the first region has its only block at the origin. -/
theorem idx0 : ∀ t : Fin cfg0.N, win0_0.index t = ![0, 0] ∧ win0_1.index t = ![0, 0] ∧ win0_2.index t = ![0, 0] :=
  (by decide +kernel : ∀ t : Fin grid0.N, _)

/-- The second region's windows: the tokens and the result move down with the point, the others stay. -/
theorem idx1 : ∀ t : Fin cfg1.N, win1_0.index t = ![0, 0] ∧ win1_1.index t = ![t.val, 0] ∧ win1_2.index t = ![0, 0]
    ∧ win1_3.index t = ![0, 0] ∧ win1_4.index t = ![0, 0] ∧ win1_5.index t = ![t.val, 0] :=
  (by decide +kernel : ∀ t : Fin grid1.N, _)

/-- The first region's formula over whole arrays. -/
def table (E : FVec Ideal S25x32 .f32) (W : FVec Ideal S32x25600 .f32) : FVec Ideal S25x25600 .bf16 :=
  fun j => ∑ d : Fin 32, max (E (ix2 (n0 := 25) (j 0) d)) 0 * W (ix2 (n1 := 25600) d (j 1))

/-- The second region's formula over whole arrays. -/
def mlp (T : FVec Ideal S5000x128 .bf16) (X : IVec S16384x200 32) (b1 : FVec Ideal S1x128 .f32)
    (W2 : FVec Ideal S128x64 .bf16) (b2 : FVec Ideal S1x64 .f32) : FVec Ideal S16384x64 .f32 :=
  fun j => (∑ n : Fin 128, max ((∑ v : Fin 25, ∑ l : Fin 200,
          (if X (ix2 (n0 := 16384) (j 0) l) = BitVec.ofNat 32 v.val then (1 : EReal) else 0) * T (ix2 (tabRow v l) n)) + b1 (ix2 0 n)) 0
            * W2 (ix2 (n1 := 64) n (j 1)))
        + b2 (ix2 (n1 := 64) 0 (j 1))

/-- The table array after the first region. -/
theorem final0 (c : Dev nD) : (dat0 V c).arrAt 2 cfg0.N = table (V c main_arg1) (V c main_v2) := by
  refine (dat0 V c).arrAt_eq_of_after_last 2 t0_0 (by decide +kernel) _ fun j => ?_
  blk_simp
  rw [after0_2]
  idx_vars j
  refine (table_apply _ _ _ _).trans ?_
  blk_point [iblk0, table, idx0 t0_0]

/-- The result array after the second region. -/
theorem final1 (c : Dev nD) : (dat1 V c).arrAt 5 cfg1.N
    = mlp (V c main_v4) (V c main_arg0) (V c main_v5) (V c main_v6) (V c main_v7) := by
  refine (dat1 V c).arrAt_eq_of_covers 5 _ (by decide +kernel) fun t _ y => ?_
  blk_simp
  rw [after1_5]
  idx_vars y
  refine (mlp_apply _ _ _ _ _ _ _).trans ?_
  blk_point [iblk1, mlp, idx1 t]

end Regions

end Cert.KernelIdeal.Value

end
-- ==== Proof.KernelValue.lean ====
/- The kernel's returned array at an index: the network's formula, for tokens in the vocabulary. -/
module

public import proofs.«01_k».proof.Proof.Arrays

@[expose] public section

set_option maxRecDepth 16384

noncomputable section

namespace Cert.KernelIdeal.Value

open Cert.KernelIdeal Cert.KernelIdeal.Gen Idealize.ShloMosaic Idealize.ShloMosaic.TcCoe Idealize.SL.Sem Cert.Net
open Idealize.ShloMosaic.StableHlo

/-- Column `l * 128 + n` of the first region's weights and of its table. -/
def col (l : Fin 200) (n : Fin 128) : Fin 25600 := ⟨l.val * 128 + n.val, by omega⟩

variable (m : (ℓ : Loc nD τ sig) → Buf (Elt Ideal) ℓ) (ρ : Dev nD → PrngReg)

/-- `W1` regrouped as the first region reads it: embedding coordinates down, positions and hidden units across. -/
def weights (W1 : FVec Ideal S6400x128 .f32) : FVec Ideal S32x25600 .f32 :=
  shapeCast S32x25600 (transpose (s := S200x32x128) S32x200x128 [1, 0, 2] (shapeCast S200x32x128 W1 Gen.shapeCasts_S6400x128_S200x32x128) Gen.transposes_S200x32x128_S32x200x128_1_0_2) Gen.shapeCasts_S32x200x128_S32x25600

/-- The table as the second region reads it: one row per vocabulary entry and position. -/
def tableRows (T : FVec Ideal S25x25600 .bf16) : FVec Ideal S5000x128 .bf16 :=
  shapeCast S5000x128 T Gen.shapeCasts_S25x25600_S5000x128

/-- The kernel's result as one formula of its arguments. -/
def result (X : IVec S16384x200 32) (E : FVec Ideal S25x32 .f32) (W1 : FVec Ideal S6400x128 .f32) (b1 : FVec Ideal S128 .f32)
    (W2 : FVec Ideal S128x64 .f32) (b2 : FVec Ideal S64 .f32) : FVec Ideal S16384x64 .f32 :=
  mlp (tableRows (table E (weights W1))) X (shapeCast S1x128 b1 Gen.shapeCasts_S128_S1x128) W2
    (shapeCast S1x64 b2 Gen.shapeCasts_S64_S1x64)

/-- The regrouped weights at an index. -/
theorem weights_apply (W1 : FVec Ideal S6400x128 .f32) (d : Fin 32) (l : Fin 200) (n : Fin 128) :
    weights W1 (ix2 d (col l n)) = W1 (ix2 (slot l d) n) := by
  have hl := l.isLt
  have hd := d.isLt
  have hn := n.isLt
  pointwise [weights, col, slot]

/-- The table's rows at an index. -/
theorem tableRows_apply (T : FVec Ideal S25x25600 .bf16) (v : Fin 25) (l : Fin 200) (n : Fin 128) :
    tableRows T (ix2 (tabRow v l) n) = T (ix2 v (col l n)) := by
  have hl := l.isLt
  have hv := v.isLt
  have hn := n.isLt
  pointwise [tableRows, col, tabRow]
  exact congrArg (fun q => T (ix2 v q))
    (Fin.ext (by show (v.val * 200 + l.val) % 200 * 128 + n.val = l.val * 128 + n.val; omega))

/-- The kernel's formula is the network's, for tokens in the vocabulary. -/
theorem result_apply {X : IVec S16384x200 32} (hX : ∀ y, InVocab (X y)) (E : FVec Ideal S25x32 .f32)
    (W1 : FVec Ideal S6400x128 .f32) (b1 : FVec Ideal S128 .f32) (W2 : FVec Ideal S128x64 .f32) (b2 : FVec Ideal S64 .f32)
    (r : Fin 16384) (o : Fin 64) : result X E W1 b1 W2 b2 (ix2 r o) = Net.out X E W1 b1 W2 b2 r o := by
  have hid (n : Fin 128) : (∑ v : Fin 25, ∑ l : Fin 200, (if X (ix2 r l) = BitVec.ofNat 32 v.val then (1 : EReal) else 0)
      * tableRows (table E (weights W1)) (ix2 (tabRow v l) n)) = Net.pre X E W1 r n := by
    rw [sum_oneHot fun l => hX (ix2 r l)]
    refine Finset.sum_congr rfl fun l _ => ?_
    rw [tableRows_apply]
    refine Finset.sum_congr rfl fun d _ => ?_
    exact congrArg _ (weights_apply W1 d l n)
  have hb1 (n : Fin 128) : shapeCast S1x128 b1 Gen.shapeCasts_S128_S1x128 (ix2 0 n) = b1 (ix1 n) := by pointwise
  have hb2 : shapeCast S1x64 b2 Gen.shapeCasts_S64_S1x64 (ix2 0 o) = b2 (ix1 o) := by pointwise
  show (∑ n : Fin 128, max ((∑ v : Fin 25, ∑ l : Fin 200, (if X (ix2 r l) = BitVec.ofNat 32 v.val then (1 : EReal) else 0)
      * tableRows (table E (weights W1)) (ix2 (tabRow v l) n)) + shapeCast S1x128 b1 Gen.shapeCasts_S128_S1x128 (ix2 0 n)) 0
        * W2 (ix2 n o)) + shapeCast S1x64 b2 Gen.shapeCasts_S64_S1x64 (ix2 0 o) = _
  simp only [hid, hb1, hb2]
  rfl

/-- The weights the first region reads, in terms of `W1`. -/
theorem weights_eq (c : Dev nD) : V1 m ρ c main_v2 = weights (m ((c : Thread nD τ).loc main_arg2)) := by
  show after hostOps0 (W0 m ρ c) (Proc.devRef .tc main_v2) = _
  after_results_simp
  rfl

/-- What the second stretch of host operations leaves for the second region. -/
theorem prepared_eq (c : Dev nD) :
    V3 m ρ c main_v4 = tableRows (V2 m ρ c main_v3)
    ∧ V3 m ρ c main_v5 = shapeCast S1x128 (m ((c : Thread nD τ).loc main_arg3)) Gen.shapeCasts_S128_S1x128
    ∧ V3 m ρ c main_v6 = m ((c : Thread nD τ).loc main_arg4)
    ∧ V3 m ρ c main_v7 = shapeCast S1x64 (m ((c : Thread nD τ).loc main_arg5)) Gen.shapeCasts_S64_S1x64 := by
  refine ⟨?_, ?_, ?_, ?_⟩
  · show after hostOps1 (W2 m ρ c) (Proc.devRef .tc main_v4) = _
    after_results_simp
    rfl
  · show after hostOps1 (W2 m ρ c) (Proc.devRef .tc main_v5) = _
    rw [← W2_args m ρ c main_arg3 (by decide)]
    after_results_simp
    rfl
  · show after hostOps1 (W2 m ρ c) (Proc.devRef .tc main_v6) = _
    rw [← W2_args m ρ c main_arg4 (by decide)]
    after_results_simp
    rfl
  · show after hostOps1 (W2 m ρ c) (Proc.devRef .tc main_v7) = _
    rw [← W2_args m ρ c main_arg5 (by decide)]
    after_results_simp
    rfl

/-- The array the kernel returns, in terms of its arguments. -/
theorem returned_eq (c : Dev nD) : W4 m ρ c (Proc.devRef .tc main_v8)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain ⟨h4, h5, h6, h7⟩ := prepared_eq m ρ c
  have h3 : V2 m ρ c main_v3 = table (m ((c : Thread nD τ).loc main_arg1)) (weights (m ((c : Thread nD τ).loc main_arg2))) := by
    rw [← weights_eq m ρ c, ← W1_args m ρ c main_arg1 (by decide)]
    exact (W2_arr m ρ c 2).trans (final0 (V1 m ρ) c)
  refine ((W4_arr m ρ c 5).trans (final1 (V3 m ρ) c)).trans ?_
  rw [h4, h5, h6, h7, h3, show V3 m ρ c main_arg0 = m ((c : Thread nD τ).loc main_arg0) from W3_args m ρ c main_arg0 (by decide)]
  rfl

end Cert.KernelIdeal.Value

end
-- ==== Proof.RefValue.lean ====
/- The reference's result at an index: the network's formula, for tokens in the vocabulary. -/
module

public import proofs.«01_k».proof.Proof.Spec
public import proofs.«01_k».proof.Proof.Gen.ReferenceIdeal
public import proofs.«01_k».proof.Proof.Gen.ReferenceIdeal.Run
public import Idealize.ShloMosaic.Lib.ReduceAll

@[expose] public section

set_option maxRecDepth 16384

noncomputable section

namespace Cert.ReferenceIdeal.Value

open Cert.ReferenceIdeal Cert.ReferenceIdeal.Gen Idealize.ShloMosaic Cert.Net

/-- The row numbers the reference reads: each token, moved up by 25 where it is negative. -/
def rows (X : IVec S16384x200 32) : IVec S16384x200x1 32 :=
  broadcastInDim S16384x200x1 ![0, 1] bcast_S16384x200_S16384x200x1_0_1 (select (cmpi .slt X (broadcastInDim S16384x200 ![] bcast_S_S16384x200 (constantI S_ 32 0#32))) (addi X (broadcastInDim S16384x200 ![] bcast_S_S16384x200 (constantI S_ 32 25#32))) X)

/-- Where the reference finds its row number inside the table. -/
def inside (X : IVec S16384x200 32) : IVec S16384x200 1 :=
  Host.reduce IntOp.andi (andi (cmpi .sge (rows X) (broadcastInDim S16384x200x1 ![] bcast_S_S16384x200x1 (constantI S_ 32 0#32))) (cmpi .sle (rows X) (broadcastInDim S16384x200x1 ![0, 1, 2] bcast_S1x1x1_S16384x200x1_0_1_2 (broadcastInDim S1x1x1 ![2] bcast_S1_S1x1x1_2 (constantI S1 32 24#32))))) (constantI S_ 1 1#1) reducesTo_S16384x200x1_S16384x200_d2 h_S_

/-- The embedded tokens. -/
def embedded (X : IVec S16384x200 32) (E : FVec Ideal S25x32 .f32) : FVec Ideal S16384x200x32 .f32 :=
  select (broadcastInDim S16384x200x32 ![0, 1] bcast_S16384x200_S16384x200x32_0_1 (inside X)) (Host.gather gather_S25x32_S16384x200x1_S16384x200x32_2_0_n_n_0_2_132 E (rows X)) (broadcastInDim S16384x200x32 ![] bcast_S_S16384x200x32 (constant S_ .f32 0x7FC00000#32))

/-- The dense part of the reference, over the embedded tokens. -/
def dense (e : FVec Ideal S16384x200x32 .f32) (W1 : FVec Ideal S6400x128 .f32) (b1 : FVec Ideal S128 .f32)
    (W2 : FVec Ideal S128x64 .f32) (b2 : FVec Ideal S64 .f32) : FVec Ideal S16384x64 .f32 :=
  addf (Host.dotGeneral dot_S16384x128_S128x64_S16384x64_1_0_0_1_n_n none (maximumf (addf (Host.dotGeneral dot_S16384x6400_S6400x128_S16384x128_1_0_0_1_n_n none (maximumf (shapeCast _ e shapeCasts_S16384x200x32_S16384x6400) (broadcastInDim S16384x6400 ![] bcast_S_S16384x6400 (constant S_ .f32 0x00000000#32))) W1) (broadcastInDim S16384x128 ![0, 1] bcast_S1x128_S16384x128_0_1 (broadcastInDim S1x128 ![1] bcast_S128_S1x128_1 b1))) (broadcastInDim S16384x128 ![] bcast_S_S16384x128 (constant S_ .f32 0x00000000#32))) W2) (broadcastInDim S16384x64 ![0, 1] bcast_S1x64_S16384x64_0_1 (broadcastInDim S1x64 ![1] bcast_S64_S1x64_1 b2))

/-- A token in the vocabulary is its own row number. -/
theorem rows_apply {X : IVec S16384x200 32} (hX : ∀ y, InVocab (X y)) (r : Fin 16384) (l : Fin 200) (z : Fin 1) :
    rows X (ix3 r l z) = X (ix2 r l) := by
  have h : (X (ix2 r l)).toNat < 25 := hX _
  have hs : BitVec.slt (X (ix2 r l)) 0#32 = false := by
    simp only [BitVec.slt, decide_eq_false_iff_not, BitVec.toInt_eq_toNat_cond, BitVec.toNat_ofNat]
    split <;> simp <;> omega
  pointwise [rows]
  rw [show IntOp.cmpi .slt (X (ix2 r l)) 0#32 = 0#1 by simp only [IntOp.cmpi, hs]; rfl]
  rfl

/-- Tokens in the vocabulary are inside the table. -/
theorem inside_apply {X : IVec S16384x200 32} (hX : ∀ y, InVocab (X y)) (y : S16384x200.Idx) : inside X y = 1#1 := by
  unfold inside
  refine Host.reduce_andi_one _ _ _ _ _ rfl fun i => ?_
  idx_vars i
  have h : (X (ix2 i0 i1)).toNat < 25 := hX _
  have hi : (X (ix2 i0 i1)).toInt = (X (ix2 i0 i1)).toNat := by rw [BitVec.toInt_eq_toNat_cond]; split <;> omega
  pointwise
  rw [rows_apply hX]
  have h0 : BitVec.sle 0#32 (X (ix2 i0 i1)) = true := by
    simp only [BitVec.sle, decide_eq_true_eq, hi]; simp
  have h1 : BitVec.sle (X (ix2 i0 i1)) 24#32 = true := by
    simp only [BitVec.sle, decide_eq_true_eq, hi]; simp; omega
  simp only [IntOp.cmpi, h0, h1]
  rfl

/-- The gather at an index: the row its start index names, read signed and held inside the table. -/
theorem gather_apply (E : FVec Ideal S25x32 .f32) (idx : IVec S16384x200x1 32) (r : Fin 16384) (l : Fin 200) (d : Fin 32) :
    Host.gather gather_S25x32_S16384x200x1_S16384x200x32_2_0_n_n_0_2_132 E idx (ix3 r l d)
      = E (ix2 (tok (idx (ix3 r l 0))) d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  obtain rfl | rfl : a = (0 : Fin 2) ∨ a = (1 : Fin 2) := by
    match a with
    | ⟨0, _⟩ => exact .inl rfl
    | ⟨1, _⟩ => exact .inr rfl
  · rw [GatherDims.offCoord_eq_zero _ _ _ (by decide), Nat.add_zero]
    unfold GatherDims.start
    rw [dif_pos (by decide)]
    have hs : GatherDims.siIdx gather_S25x32_S16384x200x1_S16384x200x32_2_0_n_n_0_2_132 (ix3 r l d) ⟨0, by decide⟩ = ix3 r l 0 := by
      funext b
      match b with
      | ⟨0, _⟩ => rfl
      | ⟨1, _⟩ => rfl
      | ⟨2, _⟩ => rfl
    exact congrArg (fun i => min (idx i).toInt.toNat 24) hs
  · unfold GatherDims.start
    rw [dif_neg (by decide), Nat.zero_add]
    rfl

/-- The dense part at an index. -/
theorem dense_apply (e : FVec Ideal S16384x200x32 .f32) (W1 : FVec Ideal S6400x128 .f32) (b1 : FVec Ideal S128 .f32)
    (W2 : FVec Ideal S128x64 .f32) (b2 : FVec Ideal S64 .f32) (r : Fin 16384) (o : Fin 64) :
    dense e W1 b1 W2 b2 (ix2 r o)
      = (∑ n : Fin 128, max ((∑ l : Fin 200, ∑ d : Fin 32, max (e (ix3 r l d)) 0 * W1 (ix2 (slot l d) n)) + b1 (ix1 n)) 0
          * W2 (ix2 n o)) + b2 (ix1 o) := by
  pointwise [dense]
  simp only [sum_slots]
  refine congrArg (· + b2 (ix1 o)) (Finset.sum_congr rfl fun n _ => ?_)
  refine congrArg (fun h => max (h + b1 (ix1 n)) 0 * W2 (ix2 n o)) ?_
  refine Finset.sum_congr rfl fun l _ => Finset.sum_congr rfl fun d _ => ?_
  refine congrArg (fun i => max (e i) 0 * W1 (ix2 (slot l d) n)) ?_
  have hl := l.isLt
  have hd := d.isLt
  exact congrArg₂ (fun p q => ix3 r p q)
    (Fin.ext (by show (l.val * 32 + d.val) / 32 = l.val; omega))
    (Fin.ext (by show (l.val * 32 + d.val) % 32 = d.val; omega))

/-- The embedded tokens at an index, for tokens in the vocabulary. -/
theorem embedded_apply {X : IVec S16384x200 32} (hX : ∀ y, InVocab (X y)) (E : FVec Ideal S25x32 .f32)
    (r : Fin 16384) (l : Fin 200) (d : Fin 32) : embedded X E (ix3 r l d) = E (ix2 (tok (X (ix2 r l))) d) := by
  pointwise [embedded]
  rw [inside_apply hX, gather_apply, rows_apply hX]
  rfl

/-- The reference computes the network's formula, for tokens in the vocabulary. -/
theorem reference_apply {X : IVec S16384x200 32} (hX : ∀ y, InVocab (X y)) (E : FVec Ideal S25x32 .f32)
    (W1 : FVec Ideal S6400x128 .f32) (b1 : FVec Ideal S128 .f32) (W2 : FVec Ideal S128x64 .f32) (b2 : FVec Ideal S64 .f32)
    (r : Fin 16384) (o : Fin 64) :
    dense (embedded X E) W1 b1 W2 b2 (ix2 r o) = Net.out X E W1 b1 W2 b2 r o := by
  rw [dense_apply]
  simp only [embedded_apply hX]
  rfl

end Cert.ReferenceIdeal.Value

end
-- ==== Proof.lean ====
/- The certificate's claims: the three frames, the kernel's text read unchanged at exact arithmetic, and the kernel's
   result equal to the reference's for tokens in the vocabulary. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Net

/-- The precondition's shape relation. -/
instance preFacts : Cert.Pre_tokens_in_vocabulary.Facts := ⟨by decide⟩

/-- The precondition says that every token is in the vocabulary. -/
theorem inVocab_of_pre [Cert.Pre_tokens_in_vocabulary.Facts] {X : IVec ⟨2, ![16384, 200]⟩ 32} {E : FVec Ideal ⟨2, ![25, 32]⟩ .f32}
    {W1 : FVec Ideal ⟨2, ![6400, 128]⟩ .f32} {b1 : FVec Ideal ⟨1, ![128]⟩ .f32} {W2 : FVec Ideal ⟨2, ![128, 64]⟩ .f32}
    {b2 : FVec Ideal ⟨1, ![64]⟩ .f32} (h : Cert.Pre_tokens_in_vocabulary.fn (F := Ideal) X E W1 b1 W2 b2 = fun _ => 1#1)
    (y : (⟨2, ![16384, 200]⟩ : Shape).Idx) : InVocab (X y) := by
  have e : IntOp.andi (IntOp.cmpi .sge (X y) 0#32) (IntOp.cmpi .slt (X y) 25#32) = 1#1 := congrFun h y
  have both : BitVec.sle 0#32 (X y) = true ∧ BitVec.slt (X y) 25#32 = true := by
    simp only [IntOp.cmpi, IntOp.andi] at e
    revert e
    cases BitVec.sle 0#32 (X y) <;> cases BitVec.slt (X y) 25#32 <;> decide
  obtain ⟨lo, hi⟩ := both
  simp only [BitVec.sle, BitVec.slt, decide_eq_true_eq, BitVec.toInt_eq_toNat_cond, BitVec.toNat_ofNat] at lo hi
  show (X y).toNat < 25
  have := (X y).isLt
  split at lo <;> split at hi <;> omega

/-- The reference runs, its arguments end unchanged and every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Every claim of this certificate. -/
theorem claim : Cert.Claim := by
  refine ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, reference_frame, fun m g _ => reference_frame m g trivial, trivial, ?_⟩
  intro m g m' g' hpre hargs
  refine ⟨fun c => Cert.KernelIdeal.Gen.W4 m g c (Proc.devRef .tc Cert.KernelIdeal.main_v8),
    Cert.KernelIdeal.Value.run m g, ?_⟩
  refine (θ_run _ _ _).mono (fun r h c => ⟨(h c).1.trans ?_, (h c).2⟩) (Cert.ReferenceIdeal.Value.run m' g')
  obtain ⟨a0, a1, a2, a3, a4, a5⟩ := hargs c
  have hX := inVocab_of_pre (hpre c)
  refine Eq.trans ?_ (Cert.KernelIdeal.Value.returned_eq m g c).symm
  rw [a0, a1, a2, a3, a4, a5]
  funext j
  idx_vars j
  exact (Cert.ReferenceIdeal.Value.reference_apply hX _ _ _ _ _ _ _).trans
    (Cert.KernelIdeal.Value.result_apply hX _ _ _ _ _ _ _).symm

end Cert.Proof

end
